-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_ok [hPre_scales_ok : Cert.Pre_scales_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scales_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_ok [hPre_scales_ok : Cert.Pre_scales_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_ok [hKernelIdeal : Cert.KernelIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_ok [hReferenceIdeal : Cert.ReferenceIdeal.Facts] [hPre_scales_ok : Cert.Pre_scales_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scales_ok [hKernelIdeal : Cert.KernelIdeal.Facts] [hReferenceIdeal : Cert.ReferenceIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scales_ok : Cert.Pre_scales_ok.Facts),
    quiescent_Kernel (hKernel := hKernel)
    ∧ quiescent_KernelIdeal (hKernelIdeal := hKernelIdeal)
    ∧ quiescent_KernelIdeal_pre_scales_ok (hKernelIdeal := hKernelIdeal) (hPre_scales_ok := hPre_scales_ok)
    ∧ quiescent_ReferenceIdeal (hReferenceIdeal := hReferenceIdeal)
    ∧ quiescent_ReferenceIdeal_pre_scales_ok (hReferenceIdeal := hReferenceIdeal) (hPre_scales_ok := hPre_scales_ok)
    ∧ preserves_Kernel_KernelIdeal
    ∧ algebraic_KernelIdeal_ReferenceIdeal_pre_scales_ok (hKernelIdeal := hKernelIdeal) (hReferenceIdeal := hReferenceIdeal) (hPre_scales_ok := hPre_scales_ok)
-- ==== Pre_scales_ok.lean ====
abbrev S2x1024x896 : Shape := ⟨3, ![2, 1024, 896]⟩
abbrev S151936x896 : Shape := ⟨2, ![151936, 896]⟩
abbrev S151936 : Shape := ⟨1, ![151936]⟩
abbrev S_ : Shape := ⟨0, ![]⟩

class Facts : Prop where
  bcast_S_S151936 : S_.BroadcastsInDim S151936 (![] : Fin 0 → Fin S151936.rank)

variable [Facts]

def fn {F : FTy → Type} [FloatOps F] (main_arg0 : FVec F S2x1024x896 .f32) (main_arg1 : IVec S151936x896 32) (main_arg2 : FVec F S151936 .f32) : IVec S151936 1 :=
  let main_cst : FVec F S_ .f32 := constant S_ .f32 0x00000000#32
  let main_v0 : FVec F S151936 .f32 := broadcastInDim S151936 ![] bcast_S_S151936 main_cst
  let main_v1 : IVec S151936 1 := cmpf .oge main_arg2 main_v0
  let main_cst_0 : FVec F S_ .f32 := constant S_ .f32 0x7F800000#32
  let main_v2 : FVec F S151936 .f32 := broadcastInDim S151936 ![] bcast_S_S151936 main_cst_0
  let main_v3 : IVec S151936 1 := cmpf .olt main_arg2 main_v2
  let main_v4 : IVec S151936 1 := andi main_v1 main_v3
  main_v4
-- ==== Kernel.lean ====
abbrev S2x1024x896 : Shape := ⟨3, ![2, 1024, 896]⟩
abbrev S151936x896 : Shape := ⟨2, ![151936, 896]⟩
abbrev S151936 : Shape := ⟨1, ![151936]⟩
abbrev S2048x896 : Shape := ⟨2, ![2048, 896]⟩
abbrev S1x151936 : Shape := ⟨2, ![1, 151936]⟩
abbrev S2048x151936 : Shape := ⟨2, ![2048, 151936]⟩
abbrev S1x2048 : Shape := ⟨2, ![1, 2048]⟩
abbrev S2048x2048 : Shape := ⟨2, ![2048, 2048]⟩
abbrev S2x1024x151936 : Shape := ⟨3, ![2, 1024, 151936]⟩

abbrev nBuf : Space → Nat
  | .hbm => 8
  | .vmem => 7
  | .smem => 0
  | _ => 0

abbrev bufTy : (tb : Table) → Fin (tcTables nBuf tb) → BufTy
  | .hbm, ⟨0, _⟩ => ⟨S2x1024x896, .f32⟩
  | .hbm, ⟨1, _⟩ => ⟨S151936x896, .i32⟩
  | .hbm, ⟨2, _⟩ => ⟨S151936, .f32⟩
  | .hbm, ⟨3, _⟩ => ⟨S2048x896, .f32⟩
  | .hbm, ⟨4, _⟩ => ⟨S2048x896, .bf16⟩
  | .hbm, ⟨5, _⟩ => ⟨S1x151936, .f32⟩
  | .hbm, ⟨6, _⟩ => ⟨S2048x151936, .f32⟩
  | .hbm, ⟨7, _⟩ => ⟨S2x1024x151936, .f32⟩
  | .local _ .vmem, ⟨0, _⟩ => ⟨S2048x896, .bf16⟩
  | .local _ .vmem, ⟨1, _⟩ => ⟨S2048x896, .i32⟩
  | .local _ .vmem, ⟨2, _⟩ => ⟨S2048x896, .i32⟩
  | .local _ .vmem, ⟨3, _⟩ => ⟨S1x2048, .f32⟩
  | .local _ .vmem, ⟨4, _⟩ => ⟨S1x2048, .f32⟩
  | .local _ .vmem, ⟨5, _⟩ => ⟨S2048x2048, .f32⟩
  | .local _ .vmem, ⟨6, _⟩ => ⟨S2048x2048, .f32⟩
  | _, _ => ⟨S2x1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x896 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x896 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x1024x896 : Shape := ⟨3, ![2, 1024, 896]⟩
abbrev S151936x896 : Shape := ⟨2, ![151936, 896]⟩
abbrev S151936 : Shape := ⟨1, ![151936]⟩
abbrev S151936x1 : Shape := ⟨2, ![151936, 1]⟩
abbrev S2x1024x151936 : Shape := ⟨3, ![2, 1024, 151936]⟩

abbrev nBuf : Space → Nat
  | .hbm => 8
  | .vmem => 0
  | .smem => 0
  | _ => 0

abbrev bufTy : (tb : Table) → Fin (tcTables nBuf tb) → BufTy
  | .hbm, ⟨0, _⟩ => ⟨S2x1024x896, .f32⟩
  | .hbm, ⟨1, _⟩ => ⟨S151936x896, .i32⟩
  | .hbm, ⟨2, _⟩ => ⟨S151936, .f32⟩
  | .hbm, ⟨3, _⟩ => ⟨S151936x896, .f32⟩
  | .hbm, ⟨4, _⟩ => ⟨S151936x1, .f32⟩
  | .hbm, ⟨5, _⟩ => ⟨S151936x896, .f32⟩
  | .hbm, ⟨6, _⟩ => ⟨S151936x896, .f32⟩
  | .hbm, ⟨7, _⟩ => ⟨S2x1024x151936, .f32⟩
  | _, _ => ⟨S2x1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.KernelFrame.lean ====
/-
  The run of the program as given, at any float values: it terminates, nothing faults, its arguments end unchanged and
  every semaphore counter is zero.

  Nothing here needs to know what the products are, so the output's buffer and array are at contents nothing names.  The
  three input buffers hold their blocks: the activations whole, the weights' and scales' as fetched, with whatever the
  buffer held outside the array at the last grid point.
-/
module

public import proofs.«01_k».proof.Proof.Gen.Kernel.Skeleton
public import proofs.«01_k».proof.Proof.Gen.Kernel.Frame
public import Idealize.ShloMosaic.Lib.Pipeline.FrameSuffix

@[expose] public section

noncomputable section

namespace Cert.KernelRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose RDat)

variable {F : FTy → Type} [FloatOps F]

local notation "𝕄" => MT nD τ sig Unit (Elt F) ℕ (UR sig nD τ) ℕ

/-- The block function on whole staging buffers leaves its inputs as they were and its output at some contents. -/
theorem body_runs (c : Dev nD) (E : Set ℕ) (i : grid0.Coords)
    (a1 : Memref sig .tc .vmem S2048x896 .bf16) (h1 : a1.IsWhole) (a2 : Memref sig .tc .vmem S2048x896 .i32) (h2 : a2.IsWhole)
    (a3 : Memref sig .tc .vmem S1x2048 .f32) (h3 : a3.IsWhole) (a4 : Memref sig .tc .vmem S2048x2048 .f32) (h4 : a4.IsWhole)
    (x : Vec F S2048x896 .bf16) (q : Vec F S2048x896 .i32) (s : Vec F S1x2048 .f32) (o : Vec F S2048x2048 .f32) (K : PUnit → sProp 𝕄) :
    iprop((owns (c : Thread nD τ) a1 fullShare x ∗ owns (c : Thread nD τ) a2 fullShare q
            ∗ owns (c : Thread nD τ) a3 fullShare s ∗ owns (c : Thread nD τ) a4 fullShare o)
          ∗ (iprop(owns (c : Thread nD τ) a1 fullShare x ∗ owns (c : Thread nD τ) a2 fullShare q
              ∗ owns (c : Thread nD τ) a3 fullShare s ∗ (∃ o', owns (c : Thread nD τ) a4 fullShare o')) -∗ K ⟨⟩))
      ⊢ wp frame (wpE (defs₀ (F := F)) Variants.none c none) E (cc0__lmhead_block i a1 h1 a2 h2 a3 h3 a4 h4) K := by
  simp only [cc0__lmhead_block_eq_skeleton]; unfold cc0__lmhead_block_skel
  unfold owns
  iintro ⟨⟨⟨%f1, %hf1, H1⟩, ⟨%f2, %hf2, H2⟩, ⟨%f3, %hf3, H3⟩, ⟨%f4, %hf4, H4⟩⟩, Hk⟩
  sl_exec
  sl_step
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  · iexists _; iexists _; isplitr
    swap; · iexact H4
    ipureintro; rfl

variable (m : (ℓ : Loc nD τ sig) → Buf (Elt F) ℓ) (ρ : Dev nD → PrngReg)

/-- The activations, which every point reads whole. -/
def xblk (c : Dev nD) (t : Fin cfg0.N) : Vec F S2048x896 .bf16 := iblk m c 0 t
/-- The weights' block at point `t`, its rows outside the array filled with `d`. -/
def wblk (c : Dev nD) (t : Fin cfg0.N) (d : Vec F S2048x896 .i32) : Vec F S2048x896 .i32 :=
  win0_1.fill (grid0.coords t) d (iblk m c 1 t)
/-- The scales' block at point `t`, its entries outside the array filled with `d`. -/
def sblk (c : Dev nD) (t : Fin cfg0.N) (d : Vec F S1x2048 .f32) : Vec F S1x2048 .f32 :=
  win0_2.fill (grid0.coords t) d (iblk m c 2 t)

/-- The proof data: the arrays as the region finds them, the inputs' buffers at their blocks after the body; what is
    written for the output is never read, the window being forgotten. -/
def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => wblk m c t fun _ => (0#32 : BitVec 32)
    | ⟨2, _⟩ => sblk m c t fun _ => Scalar.ofBits .f32 0#32
    | ⟨3, _⟩ => fun _ => Scalar.ofBits .f32 0#32
  Φ _ := Pipeline.ΦA spec0 c
  q _ := fullShare
  owed _ := 0

/-- Only the output is forgotten. -/
def forgets (w : Fin cfg0.W) : Bool := w == 3

theorem A_eq (c : Dev nD) (w : Fin cfg0.W) : (dats m 0 c).A w = V m c (Pipeline.arrRef spec0 w) := by
  dsimp only [dats]

theorem after_0 (c : Dev nD) (t : Fin cfg0.N) : (dats m 0 c).after 0 t = xblk m c t := by dsimp only [dats]

/-- The body finds the activations whole, -/
theorem before_0 (c : Dev nD) (t : Fin cfg0.N) (d) : (dats m 0 c).before 0 t d = xblk m c t :=
  before0_0_of m (dats m 0 c) (A_eq m c 0) (after_0 m c) t d
/-- the weights' block just fetched, whatever lies outside the array, -/
theorem before_1 (c : Dev nD) (t : Fin cfg0.N) (d) : (dats m 0 c).before 1 t d = wblk m c t d := by
  unfold Dat.before; rw [if_pos (fetch0_1 t)]; rfl
/-- and the scales' block likewise. -/
theorem before_2 (c : Dev nD) (t : Fin cfg0.N) (d) : (dats m 0 c).before 2 t d = sblk m c t d := by
  unfold Dat.before; rw [if_pos (fetch0_2 t)]; rfl

/-- The weights' block filled out with what the body left outside the array is what the body left, -/
theorem fill_1 (c : Dev nD) (t : Fin cfg0.N) (d : Vec F S2048x896 .i32) :
    (cfg0.win 1).fill (grid0.coords t) d ((cfg0.win 1).cut (grid0.coords t) ((dats m 0 c).after 1 t)) = wblk m c t d := by
  dsimp only [dats]; exact congrArg (win0_1.fill (grid0.coords t) d) (win0_1.cut_fill _ _ _)
/-- and the scales' likewise. -/
theorem fill_2 (c : Dev nD) (t : Fin cfg0.N) (d : Vec F S1x2048 .f32) :
    (cfg0.win 2).fill (grid0.coords t) d ((cfg0.win 2).cut (grid0.coords t) ((dats m 0 c).after 2 t)) = sblk m c t d := by
  dsimp only [dats]; exact congrArg (win0_2.fill (grid0.coords t) d) (win0_2.cut_fill _ _ _)

/-- The library's body obligation with the output forgotten. -/
theorem body_obligation (c : Dev nD) :
    BodyObligationLoose (dats m 0 c) (defs₀ (F := F)) Variants.none () Set.univ forgets := fun t => by
  rw [bigSep_W0, bigSep_W0]
  simp only [show forgets 0 = false from rfl, show forgets 1 = false from rfl, show forgets 2 = false from rfl,
    show forgets 3 = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2]
  iapply (body_runs (F := F) c Set.univ (grid0.coords t) (st0_0 t) (hstage0_0 _) (st0_1 t) (hstage0_1 _)
    (st0_2 t) (hstage0_2 _) (st0_3 t) (hstage0_3 _) (xblk m c t) (wblk m c t d1) (sblk m c t d2) d3 _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]
  · rw [after_0]; iexact H0
  isplitl [H1]
  · iexists d1
    rw [fill_1]; iexact H1
  isplitl [H2]
  · iexists d2
    rw [fill_2]; iexact H2
  · iexact H3

/-- The reshape after the region writes the result's buffer only. -/
theorem tail_writes : ∀ ops ∈ ([hostOps1] : List (List (HloOp τ sig (Elt F)))), ∀ op ∈ ops, ∀ b : Ref sig .tc,
    Proc.devRef .tc b ∈ op.writes → b ∈ ({main_v4} : Finset (Ref sig .tc)) := by
  intro ops hops op hop b hb
  rw [List.mem_singleton] at hops; subst hops
  simp only [hostOps1, List.mem_singleton] at hop; subst hop
  rw [StableHlo.reshape_writes, Finset.mem_singleton] at hb
  by_contra h
  exact StableHlo.devRef_ne_of_ne (fun e => h (Finset.mem_singleton.mpr e)) hb

set_option backward.isDefEq.respectTransparency.types false in
/-- From any memory with zero counters the program terminates; at the end each input array of the region, and every buffer
    but the result's, is as the region found it, and every semaphore counter is zero. -/
theorem run_main : θ_run defs (onTc (τ := τ) (main (F := F))) (s₀ m ρ) (fun r =>
    RDat.FramePostR cfg0 (fun c => (dats m 0 c).toRForget forgets) {main_v4} (fun c b => V0 m c (Proc.devRef .tc b)) r
      ∧ r.2.sem = fun _ => 0) :=
  Pipeline.θ_run_frame_around_T_forget (Q' := _) cfgs (dats m) 0 launch0 defs₀ Variants.none forgets {main_v4} m ρ main
    (hbody := body_obligation m)
    (hshare := fun c => (dats m 0 c).share_full fun _ => rfl) (howed := fun _ _ => rfl)
    (V₀ := V0 m) (opss := [hostOps1]) sfx_sub sfx_fresh sfx_keeps tail_writes (hmain m Variants.none)
    (hA := A_eq m) (hΦ := fun _ _ => rfl)

/-- The program terminates, its arguments end unchanged and every semaphore counter is zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun r h => ⟨fun c =>
      ⟨((h.1 c).2 main_arg0 (Finset.mem_sdiff.mpr ⟨Pipeline.mem_restRefs_of main_arg0 (by decide) (by decide), by decide⟩)).trans (V_main_arg0 m c),
        ((Dat.toRForget_arrAt_iff (dats m 0 c) (w := 1) (fgt := forgets) rfl _ _).mp ((h.1 c).1 1)).trans
          (((dats m 0 c).arrAt_in 1 rfl _).trans ((A_eq m c 1).trans (V_main_arg1 m c))),
        ((h.1 c).2 main_arg2 (Finset.mem_sdiff.mpr ⟨Pipeline.mem_restRefs_of main_arg2 (by decide) (by decide), by decide⟩)).trans (V_main_arg2 m c)⟩,
      h.2⟩) (run_main m ρ)

end Cert.KernelRun

end
-- ==== Proof.Body.lean ====
/-
  What one run of the block function does, for the idealized program at any float values.

  The block function reads the activations' block, the weights' block and the row of scales, multiplies, and stores
  the whole output block.  `body_runs` says so of whichever staging buffers the pipeline hands it: the three inputs
  are left as they were and the output buffer ends holding `Gen.k0_pay1` of them.
-/
module

public import proofs.«01_k».proof.Proof.Gen.KernelIdeal.Skeleton
public import proofs.«01_k».proof.Proof.Gen.KernelIdeal.Frame
public import Idealize.ShloMosaic.Lib.Pipeline.Value

@[expose] public section

noncomputable section

namespace Cert.IdealBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem zero2 : (![0, 0] : Fin 2 → Nat) = fun _ => 0 := funext fun a => by fin_cases a <;> rfl

/-- A load of a whole buffer reads its contents. -/
theorem load_whole {κ : Kind} {sp : Space} {S : Shape} {e : EltTy} (a : Memref sig κ sp S e) {off : Fin S.rank → Nat}
    (h : off = fun _ => 0) (inb : ∀ k, off k + S.size k ≤ S.size k) (f : a.view.ty.Contents (Elt F)) :
    a.view.readAt (Elt F) (Rect.unit off S.size inb).toLoadRect f = a.view.read (Elt F) f :=
  View.ld_unit_zero h inb (a.view.read (Elt F) f)

/-- The block function on whole staging buffers holding `x`, `q`, `s` and anything: it leaves the first three as they
    were and the fourth holding the scaled product of them. -/
theorem body_runs (c : Dev nD) (E : Set ℕ) (i : grid0.Coords)
    (a1 : Memref sig .tc .vmem S2048x896 .bf16) (h1 : a1.IsWhole) (a2 : Memref sig .tc .vmem S2048x896 .i32) (h2 : a2.IsWhole)
    (a3 : Memref sig .tc .vmem S1x2048 .f32) (h3 : a3.IsWhole) (a4 : Memref sig .tc .vmem S2048x2048 .f32) (h4 : a4.IsWhole)
    (x : Vec F S2048x896 .bf16) (q : Vec F S2048x896 .i32) (s : Vec F S1x2048 .f32) (o : Vec F S2048x2048 .f32) (K : PUnit → sProp 𝕄) :
    iprop((owns (c : Thread nD τ) a1 fullShare x ∗ owns (c : Thread nD τ) a2 fullShare q
            ∗ owns (c : Thread nD τ) a3 fullShare s ∗ owns (c : Thread nD τ) a4 fullShare o)
          ∗ (iprop(owns (c : Thread nD τ) a1 fullShare x ∗ owns (c : Thread nD τ) a2 fullShare q
              ∗ owns (c : Thread nD τ) a3 fullShare s ∗ owns (c : Thread nD τ) a4 fullShare (k0_pay1 q x s)) -∗ K ⟨⟩))
      ⊢ wp frame (wpE (defs₀ (F := F)) Variants.none c none) E (cc0__lmhead_block i a1 h1 a2 h2 a3 h3 a4 h4) K := by
  simp only [cc0__lmhead_block_eq_skeleton]; unfold cc0__lmhead_block_skel
  unfold owns
  iintro ⟨⟨⟨%f1, %hf1, H1⟩, ⟨%f2, %hf2, H2⟩, ⟨%f3, %hf3, H3⟩, ⟨%f4, %hf4, H4⟩⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  · iexists _; isplitr
    swap; · iexact H4
    ipureintro
    exact (View.read_writes_eq_canon _ _ _ fun y => ⟨_, List.mem_singleton_self _, View.mem_set_unit_zero zero2 inb_S2048x2048_S2048x2048_0_0 y⟩).trans
      ((View.canon_unit_zero zero2 _ _).trans (by
        rw [load_whole a1 zero2, load_whole a2 zero2, load_whole a3 zero2]))

end Cert.IdealBody

end
-- ==== Proof.Block.lean ====
/-
  What one block of the kernel is in the extended reals: element `(r, j)` of the stored block is
  `(∑ k, x r k · q j k) · s j`.  In particular column `j` of it reads row `j` of the weights' block and entry `j` of the
  scales' block, and nothing else of either (`block_congr`), so the rows past the end of a block that overhangs the
  array never reach a column inside it.
-/
module

public import proofs.«01_k».proof.Proof.Body
public import Idealize.ShloMosaic.Lib.MatmulPlain
public import Idealize.ShloMosaic.Lib.IdealHost
public import Idealize.ShloMosaic.Lib.ValueLayout

@[expose] public section

noncomputable section

namespace Cert.IdealBlock

open Cert.KernelIdeal Cert.KernelIdeal.Gen
open Idealize.ShloMosaic Idealize.ShloMosaic.ValueIdx

/-- The block function's contraction is a matrix product with the right operand transposed. -/
theorem dot_eq : dot_S2048x896_S2048x896_S2048x2048_1_1_0_0_n_n = DotDims.transposedRhs 2048 896 2048 := rfl

/-- The stored block at row `r` and column `j`. -/
theorem block_apply (q : Vec Ideal S2048x896 .i32) (x : Vec Ideal S2048x896 .bf16) (s : Vec Ideal S1x2048 .f32)
    (r j : Fin 2048) :
    k0_pay1 (F := Ideal) q x s (ix2 r j)
      = (∑ k : Fin 896, x (ix2 r k) * (((q (ix2 j k)).toInt : ℝ) : EReal)) * s (ix2 0 j) := by
  unfold k0_pay1
  simp only [dot_eq, shapeCast_self]
  show FloatOps.mulf (F := Ideal) (φ := .f32) (FloatOps.matmul (DotDims.transposedRhs 2048 896 2048) none x (sitofp .bf16 q)
      (constant S2048x2048 .f32 0x00000000#32) (ix2 r j)) (broadcastTo S2048x2048 (s : FVec Ideal S1x2048 .f32) broadcasts_S1x2048_S2048x2048 (ix2 r j)) = _
  rw [Ideal.matmul_transposedRhs_apply, broadcastTo_1b_ab_apply]
  rw [show constant (F := Ideal) S2048x2048 .f32 0x00000000#32 (ix2 r j) = 0 from Ideal.ofBits_zero_f32, zero_add]
  rfl

/-- Column `j` of the stored block depends on row `j` of the weights' block and entry `j` of the scales' alone. -/
theorem block_congr {q q' : Vec Ideal S2048x896 .i32} (x : Vec Ideal S2048x896 .bf16) {s s' : Vec Ideal S1x2048 .f32}
    (r j : Fin 2048) (hq : ∀ k : Fin 896, q (ix2 j k) = q' (ix2 j k)) (hs : s (ix2 0 j) = s' (ix2 0 j)) :
    k0_pay1 (F := Ideal) q x s (ix2 r j) = k0_pay1 (F := Ideal) q' x s' (ix2 r j) := by
  rw [block_apply, block_apply, hs]
  simp only [hq]

end Cert.IdealBlock

end
-- ==== Proof.Run.lean ====
/-
  The run of the idealized program in the extended reals.

  The grid has 75 points.  Point `t` reads the whole activations, the weights' rows and the scales' entries
  `2048·t, …`, and stores the columns `2048·t, …` of the result.  The last point's blocks overhang the arrays: only 384
  of their 2048 rows (entries, columns) are inside, the fetch fills only those, and the rest of each staging buffer holds
  words nothing names.  The data below state each buffer on the part inside the array.  That the words outside do not
  matter there is `Cert.IdealBlock.block_congr`.
-/
module

public import proofs.«01_k».proof.Proof.Block

@[expose] public section

noncomputable section

namespace Cert.IdealRun

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable (m : (ℓ : Loc nD τ sig) → Buf (Elt Ideal) ℓ) (ρ : Dev nD → PrngReg)

/-- The weights' block at point `t`, its rows outside the array filled with `d`. -/
def wblk (c : Dev nD) (t : Fin cfg0.N) (d : Vec Ideal S2048x896 .i32) : Vec Ideal S2048x896 .i32 :=
  win0_1.fill (grid0.coords t) d (iblk m c 1 t)
/-- The scales' block at point `t`, its entries outside the array filled with `d`. -/
def sblk (c : Dev nD) (t : Fin cfg0.N) (d : Vec Ideal S1x2048 .f32) : Vec Ideal S1x2048 .f32 :=
  win0_2.fill (grid0.coords t) d (iblk m c 2 t)
/-- The activations, which every point reads whole. -/
def xblk (c : Dev nD) (t : Fin cfg0.N) : Vec Ideal S2048x896 .bf16 := iblk m c 0 t
/-- The block the body stores at point `t`, when the words outside the arrays are `d` and `e`. -/
def oblk (c : Dev nD) (t : Fin cfg0.N) (d : Vec Ideal S2048x896 .i32) (e : Vec Ideal S1x2048 .f32) : Vec Ideal S2048x2048 .f32 :=
  k0_pay1 (F := Ideal) (wblk m c t d) (xblk m c t) (sblk m c t e)

/-- A filler for the weights' rows outside the array: any words would do. -/
def fillW : Vec Ideal S2048x896 .i32 := fun _ => (0#32 : BitVec 32)
/-- A filler for the scales' entries outside the array. -/
def fillS : Vec Ideal S1x2048 .f32 := fun _ => (0 : EReal)

/-- The proof data: the arrays as the region finds them; after the body at point `t` the inputs' buffers hold their
    blocks and the output's the block stored there; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => xblk m c t
    | ⟨1, _⟩ => wblk m c t fillW
    | ⟨2, _⟩ => sblk m c t fillS
    | ⟨3, _⟩ => oblk m c t fillW fillS
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xblk m c t := by dsimp only [dats]
theorem after_1 (c : Dev nD) (t : Fin cfg0.N) : (dats m 0 c).after 1 t = wblk m c t fillW := by dsimp only [dats]
theorem after_2 (c : Dev nD) (t : Fin cfg0.N) : (dats m 0 c).after 2 t = sblk m c t fillS := by dsimp only [dats]
theorem after_3 (c : Dev nD) (t : Fin cfg0.N) : (dats m 0 c).after 3 t = oblk m c t fillW fillS := by dsimp only [dats]

/-- The body finds the activations whole, -/
theorem before_0 (c : Dev nD) (t : Fin cfg0.N) (d) : (dats m 0 c).before 0 t d = xblk m c t :=
  before0_0_of m (dats m 0 c) (A_eq m c 0) (after_0 m c) t d
/-- the weights' block just fetched, whatever lies outside the array, -/
theorem before_1 (c : Dev nD) (t : Fin cfg0.N) (d) : (dats m 0 c).before 1 t d = wblk m c t d := by
  unfold Dat.before; rw [if_pos (fetch0_1 t)]; rfl
/-- and the scales' block likewise. -/
theorem before_2 (c : Dev nD) (t : Fin cfg0.N) (d) : (dats m 0 c).before 2 t d = sblk m c t d := by
  unfold Dat.before; rw [if_pos (fetch0_2 t)]; rfl

/-- Inside the array a filled weights' block is the fetched one, whatever fills the rest, -/
theorem wblk_inside (c : Dev nD) (t : Fin cfg0.N) (d : Vec Ideal S2048x896 .i32) :
    win0_1.cut (grid0.coords t) (wblk m c t d) = iblk m c 1 t := win0_1.cut_fill _ _ _
/-- and so is a filled scales' block. -/
theorem sblk_inside (c : Dev nD) (t : Fin cfg0.N) (d : Vec Ideal S1x2048 .f32) :
    win0_2.cut (grid0.coords t) (sblk m c t d) = iblk m c 2 t := win0_2.cut_fill _ _ _

/-- A weights' block's row inside the array does not depend on the filler. -/
theorem wblk_row (c : Dev nD) (t : Fin cfg0.N) (d d' : Vec Ideal S2048x896 .i32) (j : Fin 2048)
    (hj : j.val < win0_3.xsize (grid0.coords t) 1) (k : Fin 896) : wblk m c t d (ix2 j k) = wblk m c t d' (ix2 j k) := by
  have h : win0_1.moved (grid0.coords t) (ix2 j k) = true := (win0_1.moved_iff _ _).mpr fun a => by
    match a with
    | ⟨0, _⟩ => exact hj
    | ⟨1, _⟩ => exact k.isLt
  unfold wblk Window.fill
  rw [dif_pos h, dif_pos h]
/-- A scales' block's entry inside the array does not depend on the filler. -/
theorem sblk_entry (c : Dev nD) (t : Fin cfg0.N) (d d' : Vec Ideal S1x2048 .f32) (j : Fin 2048)
    (hj : j.val < win0_3.xsize (grid0.coords t) 1) : sblk m c t d (ix2 0 j) = sblk m c t d' (ix2 0 j) := by
  have h : win0_2.moved (grid0.coords t) (ix2 0 j) = true := (win0_2.moved_iff _ _).mpr fun a => by
    match a with
    | ⟨0, _⟩ => exact Nat.one_pos
    | ⟨1, _⟩ => exact hj
  unfold sblk Window.fill
  rw [dif_pos h, dif_pos h]

/-- The columns inside the array of the stored block do not depend on what lies outside the input arrays. -/
theorem oblk_inside (c : Dev nD) (t : Fin cfg0.N) (d d' : Vec Ideal S2048x896 .i32) (e e' : Vec Ideal S1x2048 .f32) :
    win0_3.cut (grid0.coords t) (oblk m c t d e) = win0_3.cut (grid0.coords t) (oblk m c t d' e') := by
  funext y
  have hr : (y 0).val < 2048 := Nat.lt_of_lt_of_le (y 0).isLt (win0_3.xsize_le (grid0.coords t) 0)
  have hj : (y 1).val < 2048 := Nat.lt_of_lt_of_le (y 1).isLt (win0_3.xsize_le (grid0.coords t) 1)
  have hy : win0_3.xinj (grid0.coords t) y = ix2 (⟨(y 0).val, hr⟩ : Fin 2048) (⟨(y 1).val, hj⟩ : Fin 2048) := by
    funext a; match a with
    | ⟨0, _⟩ => rfl
    | ⟨1, _⟩ => rfl
  show oblk m c t d e (win0_3.xinj (grid0.coords t) y) = oblk m c t d' e' (win0_3.xinj (grid0.coords t) y)
  rw [hy]
  exact Cert.IdealBlock.block_congr _ _ _ (fun k => wblk_row m c t d d' _ (y 1).isLt k) (sblk_entry m c t e e' _ (y 1).isLt)

/-- What the pipeline states of each buffer after the body, its block filled out with what the body left outside the
    array, is what the body left: the weights' buffer, -/
theorem fill_1 (c : Dev nD) (t : Fin cfg0.N) (d : Vec Ideal S2048x896 .i32) :
    (cfg0.win 1).fill (grid0.coords t) d ((cfg0.win 1).cut (grid0.coords t) ((dats m 0 c).after 1 t)) = wblk m c t d := by
  rw [after_1]; exact congrArg (win0_1.fill (grid0.coords t) d) (wblk_inside m c t fillW)
/-- the scales', -/
theorem fill_2 (c : Dev nD) (t : Fin cfg0.N) (d : Vec Ideal S1x2048 .f32) :
    (cfg0.win 2).fill (grid0.coords t) d ((cfg0.win 2).cut (grid0.coords t) ((dats m 0 c).after 2 t)) = sblk m c t d := by
  rw [after_2]; exact congrArg (win0_2.fill (grid0.coords t) d) (sblk_inside m c t fillS)
/-- and the output's, whose columns inside the array do not depend on the fillers. -/
theorem fill_3 (c : Dev nD) (t : Fin cfg0.N) (d : Vec Ideal S2048x896 .i32) (e : Vec Ideal S1x2048 .f32) :
    (cfg0.win 3).fill (grid0.coords t) (oblk m c t d e) ((cfg0.win 3).cut (grid0.coords t) ((dats m 0 c).after 3 t))
      = oblk m c t d e := by
  rw [after_3]; exact win0_3.fill_congr_cut _ (oblk_inside m c t d fillW e fillS)

/-- The library's body obligation: the body leaves the inputs' buffers as it found them and the output's holding a block
    that is `after_3`'s on the columns inside the array. -/
theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2]
  iapply (Cert.IdealBody.body_runs (F := Ideal) c Set.univ (grid0.coords t) (st0_0 t) (hstage0_0 _) (st0_1 t) (hstage0_1 _)
    (st0_2 t) (hstage0_2 _) (st0_3 t) (hstage0_3 _)
    (xblk m c t) (wblk m c t d1) (sblk m c t d2) _ _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]
  · rw [after_0]; iexact H0
  isplitl [H1]
  · iexists d1
    rw [fill_1]; iexact H1
  isplitl [H2]
  · iexists d2
    rw [fill_2]; iexact H2
  · iexists oblk m c t d1 d2
    rw [fill_3]; iexact H3

set_option backward.isDefEq.respectTransparency.types false in
/-- From any memory with zero counters the program terminates; at the end the region's arrays hold what the pipeline
    computes, every other buffer what the line after the region leaves, and every semaphore counter is zero. -/
theorem run_main : θ_run defs (onTc (τ := τ) (main (F := Ideal))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) 0 launch0 defs₀ Variants.none m ρ main
    (hbody := body_obligation m)
    (hshare := fun c => (dats m 0 c).share_full fun _ => rfl) (howed := fun _ _ => rfl)
    (V₀ := V0 m) (opss := [hostOps1]) sfx_sub sfx_fresh sfx_keeps (hmain m Variants.none)
    (hA := A_eq m) (hΦ := fun _ _ => rfl)

end Cert.IdealRun

end
-- ==== Proof.Array.lean ====
/-
  What the region leaves in its output array, in the extended reals: at `(r, j)`, the dot product of the activations' row
  `r` with the weights' row `j`, times scale `j`.

  Grid point `t` writes the columns `2048·t, …` that are inside the array; the points' columns cover it.
-/
module

public import proofs.«01_k».proof.Proof.Run
public import Idealize.ShloMosaic.Lib.Pipeline.ValueKit

@[expose] public section

noncomputable section

namespace Cert.IdealArray

open Cert.KernelIdeal Cert.KernelIdeal.Gen Cert.IdealRun
open Idealize.ShloMosaic hiding ix2
open Idealize.ShloMosaic.TcCoe Idealize.ShloMosaic.Tactic Idealize.ShloMosaic.ValueIdx
open Idealize.ShloMosaic.Pipeline (Dat Cfg Window)

/-- The scaled product of activations, integer weights and a row of scales. -/
def scaled (X : FVec Ideal S2048x896 .bf16) (Q : Vec Ideal S151936x896 .i32) (S : FVec Ideal S1x151936 .f32) :
    FVec Ideal S2048x151936 .f32 := fun i =>
  (∑ k : Fin 896, X (ix2 (i 0) k) * (((Q (ix2 (i 1) k)).toInt : ℝ) : EReal)) * S (ix2 0 (i 1))

variable (m : (ℓ : Loc nD τ sig) → Buf (Elt Ideal) ℓ)

/-- The block indices: the activations' block is always the first, -/
theorem index_0 : ∀ t : Fin cfg0.N, win0_0.index t = ![0, 0] := (by decide +kernel : ∀ t : Fin grid0.N, _)
/-- the weights' block is the `t`-th along the rows, -/
theorem index_1 : ∀ t : Fin cfg0.N, win0_1.index t = ![t.val, 0] := (by decide +kernel : ∀ t : Fin grid0.N, _)
/-- the scales' and the output's the `t`-th along the columns. -/
theorem index_2 : ∀ t : Fin cfg0.N, win0_2.index t = ![0, t.val] := (by decide +kernel : ∀ t : Fin grid0.N, _)
theorem index_3 : ∀ t : Fin cfg0.N, win0_3.index t = ![0, t.val] := (by decide +kernel : ∀ t : Fin grid0.N, _)

/-- The activations' block is the array. -/
theorem xblk_apply (c : Dev nD) (t : Fin cfg0.N) (r : Fin 2048) (k : Fin 896) :
    xblk m c t (ix2 r k) = V m c main_v1 (ix2 r k) := by
  unfold xblk
  blk_simp [iblk]
  blk_ext [index_0]

/-- Row `j` of the weights' block at point `t`, if inside the array, is the array's row `2048·t + j`, -/
theorem wblk_apply (c : Dev nD) (t : Fin cfg0.N) (d : Vec Ideal S2048x896 .i32) (j : Fin 2048) (n : Fin 151936)
    (hn : n.val = t.val * 2048 + j.val) (hj : j.val < win0_1.xsize (grid0.coords t) 0) (k : Fin 896) :
    wblk m c t d (ix2 j k) = V m c main_arg1 (ix2 n k) := by
  have h : win0_1.moved (grid0.coords t) (ix2 j k) = true := (win0_1.moved_iff _ _).mpr fun a => by
    match a with
    | ⟨0, _⟩ => exact hj
    | ⟨1, _⟩ => exact k.isLt
  unfold wblk Window.fill
  rw [dif_pos h]
  blk_simp [iblk]
  blk_ext [index_1, hn]

/-- and entry `j` of the scales' block likewise. -/
theorem sblk_apply (c : Dev nD) (t : Fin cfg0.N) (d : Vec Ideal S1x2048 .f32) (j : Fin 2048) (n : Fin 151936)
    (hn : n.val = t.val * 2048 + j.val) (hj : j.val < win0_2.xsize (grid0.coords t) 1) :
    sblk m c t d (ix2 0 j) = V m c main_v2 (ix2 0 n) := by
  have h : win0_2.moved (grid0.coords t) (ix2 0 j) = true := (win0_2.moved_iff _ _).mpr fun a => by
    match a with
    | ⟨0, _⟩ => exact Nat.one_pos
    | ⟨1, _⟩ => exact hj
  unfold sblk Window.fill
  rw [dif_pos h]
  blk_simp [iblk]
  blk_ext [index_2, hn]

/-- The region's output array ends at the scaled product of its input arrays. -/
theorem out_eq (c : Dev nD) : (dats m 0 c).arrAt 3 cfg0.N = scaled (V m c main_v1) (V m c main_arg1) (V m c main_v2) := by
  refine (dats m 0 c).arrAt_eq_of_covers 3 _ (by decide +kernel) fun t _ y => ?_
  blk_simp
  rw [after_3]
  generalize hi : (win0_3.blk t).view.emb y = i
  have h0 : (i 0).val = (y 0).val := by rw [← hi]; blk_simp [index_3]; try omega
  have h1 : (i 1).val = t.val * 2048 + (y 1).val := by rw [← hi]; blk_simp [index_3]; try omega
  have hr : (y 0).val < 2048 := Nat.lt_of_lt_of_le (y 0).isLt (win0_3.xsize_le (grid0.coords t) 0)
  have hj : (y 1).val < 2048 := Nat.lt_of_lt_of_le (y 1).isLt (win0_3.xsize_le (grid0.coords t) 1)
  have hy : (cfg0.win 3).xinj (cfg0.grid.coords t) y = ix2 (⟨(y 0).val, hr⟩ : Fin 2048) (⟨(y 1).val, hj⟩ : Fin 2048) := by
    funext a; match a with
    | ⟨0, _⟩ => rfl
    | ⟨1, _⟩ => rfl
  rw [hy]
  refine (Cert.IdealBlock.block_apply _ _ _ _ _).trans ?_
  unfold scaled
  rw [sblk_apply m c t fillS _ (i 1) h1 (y 1).isLt]
  refine congrArg (· * _) (Finset.sum_congr rfl fun k _ => ?_)
  rw [xblk_apply, wblk_apply m c t fillW _ (i 1) h1 (y 1).isLt, show (⟨(y 0).val, hr⟩ : Fin 2048) = i 0 from Fin.ext h0.symm]

end Cert.IdealArray

end
-- ==== Proof.Value.lean ====
/-
  What the idealized program returns, in the extended reals, of its arguments: at `(b, s, j)`, the dot product of the
  activations' row `(b, s)` with the weights' row `j`, times scale `j`.

  The operations around the region only regroup axes (`[2, 1024]` against `[2048]`, `[151936]` against `[1, 151936]`) and
  change the activations' float format, which in the extended reals changes nothing.
-/
module

public import proofs.«01_k».proof.Proof.Array
public import Idealize.ShloMosaic.Lib.StableHlo.Run
public import Idealize.ShloMosaic.Lib.ValueLayout

@[expose] public section

noncomputable section

namespace Cert.IdealValue

open Cert.KernelIdeal Cert.KernelIdeal.Gen Cert.IdealRun Cert.IdealArray
open Idealize.ShloMosaic hiding ix1 ix2 ix3 eq_ix3
open Idealize.ShloMosaic.TcCoe Idealize.ShloMosaic.Tactic Idealize.ShloMosaic.ValueIdx
open Idealize.SL.Sem

/-- Dot products of the activations' rows with the integer weights' rows, each times its scale. -/
def logits (x : FVec Ideal S2x1024x896 .f32) (q : Vec Ideal S151936x896 .i32) (s : FVec Ideal S151936 .f32) :
    FVec Ideal S2x1024x151936 .f32 := fun i =>
  (∑ k : Fin 896, x (ix3 (i 0) (i 1) k) * (((q (ix2 (i 2) k)).toInt : ℝ) : EReal)) * s (ix1 (i 2))

/-- Row `(b, s)` of the `[2, 1024]` rows is row `1024·b + s` of the 2048. -/
def row (b : Fin 2) (s : Fin 1024) : Fin 2048 := ⟨b.val * 1024 + s.val, by omega⟩

variable (m : (ℓ : Loc nD τ sig) → Buf (Elt Ideal) ℓ) (ρ : Dev nD → PrngReg)

/-- The arguments as launched: the activations, -/
def argX (c : Dev nD) : FVec Ideal S2x1024x896 .f32 := m ((c : Thread nD τ).loc main_arg0)
/-- the integer weights, -/
def argQ (c : Dev nD) : Vec Ideal S151936x896 .i32 := m ((c : Thread nD τ).loc main_arg1)
/-- and the scales. -/
def argS (c : Dev nD) : FVec Ideal S151936 .f32 := m ((c : Thread nD τ).loc main_arg2)

/-- The region finds the activations regrouped, -/
theorem V_main_v1 (c : Dev nD) (b : Fin 2) (s : Fin 1024) (k : Fin 896) :
    (V m c main_v1 : FVec Ideal S2048x896 .bf16) (ix2 (row b s) k) = argX m c (ix3 b s k) := by
  have h : V m c main_v1 = truncf (F := Ideal) (φ := .f32) .bf16 (shapeCast S2048x896 (argX m c) shapeCasts_S2x1024x896_S2048x896) bitsLt_bf16_f32 := by
    unfold V V0
    simp only [hostOps0, List.flatten_cons, List.flatten_nil, List.append_nil, List.cons_append, List.nil_append]
    after_results
    rfl
  rw [h, ValueIdx.truncf_apply]
  refine shapeCast_apply _ _ _ _ ?_
  rw [Shape.rowMajor_val_three, Shape.rowMajor_val_two]
  rfl

/-- and the scales as one row. -/
theorem V_main_v2 (c : Dev nD) (j : Fin 151936) :
    (V m c main_v2 : FVec Ideal S1x151936 .f32) (ix2 0 j) = argS m c (ix1 j) := by
  have h : V m c main_v2 = shapeCast S1x151936 (argS m c) shapeCasts_S151936_S1x151936 := by
    unfold V V0
    simp only [hostOps0, List.flatten_cons, List.flatten_nil, List.append_nil, List.cons_append, List.nil_append]
    after_results
    rfl
  rw [h]
  exact shapeCast_a_1a_apply _ _ _ _

/-- The program's result, of its arguments. -/
theorem result (c : Dev nD) : Pipeline.afterTail₀ cfgs (dats m) 0 (V0 m) [hostOps1] c main_v4
    = logits (argX m c) (argQ m c) (argS m c) := by
  have h : Pipeline.afterTail₀ cfgs (dats m) 0 (V0 m) [hostOps1] c main_v4
      = shapeCast S2x1024x151936 (scaled (V m c main_v1) (V m c main_arg1) (V m c main_v2)) shapeCasts_S2048x151936_S2x1024x151936 := by
    unfold Pipeline.afterTail₀
    simp only [hostOps1, List.flatten_cons, List.flatten_nil, List.append_nil]
    after_results
    exact congrArg (fun a => shapeCast S2x1024x151936 a shapeCasts_S2048x151936_S2x1024x151936)
      ((Pipeline.withArrays_arr spec0 launch0.win.arr_inj c (V0 m c) _ 3).trans (out_eq m c))
  rw [h]
  funext i
  obtain ⟨b, s, j, rfl⟩ : ∃ b s j, i = ix3 b s j := ⟨_, _, _, eq_ix3 i⟩
  refine (shapeCast_apply _ _ _ (ix2 (row b s) j) (by rw [Shape.rowMajor_val_three, Shape.rowMajor_val_two]; rfl)).trans ?_
  have hq : V m c main_arg1 = argQ m c := V_main_arg1 m c
  exact congrArg₂ (· * ·)
    (Finset.sum_congr rfl fun k _ => congrArg₂ (· * ·) (V_main_v1 m c b s k) (congrArg (fun z : BitVec 32 => ((z.toInt : ℝ) : EReal)) (congrFun hq (ix2 j k))))
    (V_main_v2 m c j)

/-- The idealized program terminates returning `logits` of its arguments, which end unchanged. -/
theorem run_value : θ_run defs (onTc (τ := τ) (main (F := Ideal))) ⟨m, fun _ => 0, ρ⟩ (fun r => ∀ c : Dev nD,
      r.2.mem ((c.tc : Thread nD τ).loc main_v4)
          = logits (argX m c) (argQ m c) (argS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v4 (Pipeline.mem_restRefs_of main_v4 (by decide) (by decide))).trans (result m c),
      ((h.1 c).2 main_arg0 (Pipeline.mem_restRefs_of main_arg0 (by decide) (by decide))).trans (W_main_arg0 m (dats m) c),
      ((h.1 c).1 1).trans (((dats m 0 c).arrAt_in 1 rfl _).trans ((A_eq m c 1).trans (V_main_arg1 m c))),
      ((h.1 c).2 main_arg2 (Pipeline.mem_restRefs_of main_arg2 (by decide) (by decide))).trans (W_main_arg2 m (dats m) c)⟩)
    (run_main m ρ)

/-- It ends with its arguments unchanged and every semaphore counter zero. -/
theorem frame_quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  θ_run_with_sems (frame_of m ρ (dats m) (A_eq m)) (run_main m ρ)

end Cert.IdealValue

end
-- ==== Proof.Algebra.lean ====
/-
  The one equation between the program and the reference, in the extended reals: a finite non-negative scale may be
  applied to a weights' row before or after the dot product with it.
-/
module

public import Mathlib.Data.EReal.Inv
public import Mathlib.Algebra.BigOperators.Fin

@[expose] public section

namespace Cert.Algebra

/-- A finite non-negative factor distributes over a finite sum of extended reals. -/
theorem sum_mul_of_finite {ι : Type} (A : Finset ι) (f : ι → EReal) {s : EReal} (h0 : 0 ≤ s) (ht : s ≠ ⊤) :
    (∑ k ∈ A, f k) * s = ∑ k ∈ A, f k * s := by
  classical
  induction A using Finset.induction_on with
  | empty => simp
  | insert a A ha ih =>
    rw [Finset.sum_insert ha, Finset.sum_insert ha, EReal.right_distrib_of_nonneg_of_ne_top h0 ht, ih]

/-- Scaling the dot product is scaling the second operand. -/
theorem dot_scaled {n : ℕ} (x q : Fin n → EReal) {s : EReal} (h0 : 0 ≤ s) (ht : s ≠ ⊤) :
    (∑ k, x k * q k) * s = ∑ k, x k * (q k * s) := by
  rw [sum_mul_of_finite _ _ h0 ht]
  exact Finset.sum_congr rfl fun k _ => mul_assoc _ _ _

/-- Without finiteness it fails: `(1 - 1) · ∞` is `0`, while `1 · ∞ - 1 · ∞` is `⊥`. -/
theorem infinite_scale_differs : ((1 : EReal) + -1) * ⊤ ≠ 1 * ⊤ + -1 * ⊤ := by
  have h : (1 : EReal) + -1 = 0 := EReal.sub_self (EReal.coe_ne_top 1) (EReal.coe_ne_bot 1)
  rw [h, zero_mul, one_mul, neg_mul, one_mul, EReal.neg_top, EReal.add_bot]
  exact EReal.zero_ne_bot

/-- Without a sign it fails: `(⊤ + ⊥) · (-1)` is `⊤`, while `⊤ · (-1) + ⊥ · (-1)` is `⊥`. -/
theorem negative_scale_differs : ((⊤ : EReal) + ⊥) * -1 ≠ ⊤ * -1 + ⊥ * -1 := by
  rw [EReal.add_bot, mul_neg, mul_one, mul_neg, mul_one, EReal.neg_bot, EReal.neg_top, EReal.bot_add]
  exact top_ne_bot

end Cert.Algebra
-- ==== Proof.Reference.lean ====
/-
  What the reference computes, in the extended reals, and that it is what the idealized program returns.

  The reference scales the integer weights and then takes dot products; the program takes dot products and then scales.
  For finite non-negative scales the two agree at every index.
-/
module

public import proofs.«01_k».proof.Proof.Value
public import proofs.«01_k».proof.Proof.Algebra
public import proofs.«01_k».proof.Proof.Gen.ReferenceIdeal.Run
public import proofs.«01_k».proof.Proof.Gen.ReferenceIdeal.Read
public import proofs.«01_k».proof.Proof.Gen.Pre_scales_ok
public import Idealize.ShloMosaic.Lib.Affine
public import Idealize.ShloMosaic.Lib.Quiescent

@[expose] public section

noncomputable section

namespace Cert.RefValue

open Cert.ReferenceIdeal Cert.ReferenceIdeal.Gen Cert.ReferenceIdeal.Read
open Idealize.ShloMosaic hiding ix1 ix2 ix3
open Idealize.ShloMosaic.TcCoe Idealize.ShloMosaic.ValueIdx
open Idealize.SL.Sem
open Cert.IdealValue (logits)

/-- Every scale is finite and non-negative. -/
def ScalesOk (s : FVec Ideal S151936 .f32) : Prop := ∀ j, (0 : EReal) ≤ s j ∧ (s j : EReal) ≠ ⊤

/-- The precondition says that every scale is finite and non-negative. -/
theorem scalesOk_of_pre {x : FVec Ideal S2x1024x896 .f32} {q : IVec S151936x896 32} {s : FVec Ideal S151936 .f32}
    (h : Cert.Pre_scales_ok.fn (F := Ideal) x q s = fun _ => 1#1) : ScalesOk s := fun j => by
  have hj : IntOp.andi (Ideal.cmp .oge (s j) (Ideal.ofBits .f32 0x00000000#32)) (Ideal.cmp .olt (s j) (Ideal.ofBits .f32 0x7F800000#32)) = 1#1 :=
    congrFun h j
  rw [Ideal.ofBits_zero_f32, show Ideal.ofBits .f32 0x7F800000#32 = ⊤ by simp [Ideal.ofBits, Ideal.ieee]] at hj
  obtain ⟨h0, h1⟩ := IntOp.andi_eq_one.mp hj
  have bit {p : Prop} [Decidable p] (e : BitVec.ofBool (decide p) = 1#1) : p :=
    by_contra fun hp => absurd e (by rw [decide_eq_false hp]; decide)
  exact ⟨bit h0, (bit h1 : (s j : EReal) < ⊤).ne⟩

/-- The reference's result at an index: the sum over `k` of an activation times a scaled weight. -/
theorem reference_apply (x : FVec Ideal S2x1024x896 .f32) (q : Vec Ideal S151936x896 .i32) (s : FVec Ideal S151936 .f32)
    (b : Fin 2) (r : Fin 1024) (j : Fin 151936) :
    val_main_v4 (F := Ideal) x q s (ix3 b r j)
      = ∑ k : Fin 896, x (ix3 b r k) * ((((q (ix2 j k)).toInt : ℝ) : EReal) * s (ix1 j)) := by
  have hx (k : Fin 896) : lidx_main_v4 (ix3 b r j) k = ix3 b r k := by
    funext a; match a with | ⟨0, _⟩ => rfl | ⟨1, _⟩ => rfl | ⟨2, _⟩ => rfl
  have hq (k : Fin 896) : ridx_main_v4 (ix3 b r j) k = ix2 j k := by
    funext a; match a with | ⟨0, _⟩ => rfl | ⟨1, _⟩ => rfl
  have hs (k : Fin 896) : idx_main_v1 (idx_main_v2 (ix2 j k)) = ix1 j := by
    funext a; match a with | ⟨0, _⟩ => rfl
  rw [val_main_v4_apply]
  refine Finset.sum_congr rfl fun k _ => ?_
  rw [hx, hq, val_main_v3_apply, val_main_v2_apply, val_main_v1_apply, hs]
  rfl

/-- With finite non-negative scales the reference computes the program's `logits`. -/
theorem reference_eq_logits (x : FVec Ideal S2x1024x896 .f32) (q : Vec Ideal S151936x896 .i32) (s : FVec Ideal S151936 .f32)
    (hs : ScalesOk s) : val_main_v4 (F := Ideal) x q s = logits x q s := by
  funext i
  obtain ⟨b, r, j, rfl⟩ : ∃ (b : Fin 2) (r : Fin 1024) (j : Fin 151936), i = ix3 b r j := ⟨_, _, _, ValueIdx.eq_ix3 i⟩
  rw [reference_apply]
  exact (Cert.Algebra.dot_scaled (fun k : Fin 896 => x (ix3 b r k)) (fun k => (((q (ix2 j k)).toInt : ℝ) : EReal)) (hs (ix1 j)).1 (hs (ix1 j)).2).symm

variable (m : (ℓ : Loc nD τ sig) → Buf (Elt Ideal) ℓ) (ρ : Dev nD → PrngReg)

/-- The reference terminates with its arguments unchanged and every semaphore counter zero (it has no semaphores). -/
theorem frame_quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun r h => ⟨fun c => (h c).2, sem_eq_zero_of_no_sems (by decide) r.2⟩) (Cert.ReferenceIdeal.Value.run m ρ)

end Cert.RefValue

end
-- ==== Proof.lean ====
/-
  The proof of `Cert.Claim` (Defs.lean).

  - The program as given terminates, keeps its arguments and leaves every counter zero: `Cert.KernelRun.frame_quiescent`.
  - The idealized program likewise, and it returns `Cert.IdealValue.logits` of its arguments: `Cert.IdealValue`.
  - The reference likewise, and with finite non-negative scales it computes the same `logits`: `Cert.RefValue`.
  - The idealized program is the given program's own text, so nothing is left to show of `preserves`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_scales_ok
public import proofs.«01_k».proof.Proof.KernelFrame
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- From memories that agree on the arguments, with finite non-negative scales, the idealized program and the reference
    end with the same result, and each with its arguments unchanged. -/
theorem algebraic : Cert.algebraic_KernelIdeal_ReferenceIdeal_pre_scales_ok := by
  intro m g m' g' hpre hagree
  refine ⟨fun c => Cert.IdealValue.logits (Cert.IdealValue.argX m c) (Cert.IdealValue.argQ m c) (Cert.IdealValue.argS m c),
    Cert.IdealValue.run_value m g, ?_⟩
  refine (θ_run Cert.ReferenceIdeal.defs _ _).mono (fun r h c => ⟨(h c).1.trans ?_, (h c).2⟩) (Cert.ReferenceIdeal.Value.run m' g')
  rw [Cert.ReferenceIdeal.Read.val_main_v4_eq, (hagree c).1, (hagree c).2.1, (hagree c).2.2]
  exact Cert.RefValue.reference_eq_logits (Cert.IdealValue.argX m c) (Cert.IdealValue.argQ m c) (Cert.IdealValue.argS m c)
    (Cert.RefValue.scalesOk_of_pre (hpre c))

/-- Every claim holds. -/
theorem claim : Cert.Claim :=
  ⟨Cert.Kernel.Gen.facts, Cert.KernelIdeal.Gen.facts, Cert.ReferenceIdeal.Gen.facts, Cert.Pre_scales_ok.Gen.facts,
    fun m g _ => Cert.KernelRun.frame_quiescent (F := Bits) m g,
    fun m g _ => Cert.IdealValue.frame_quiescent m g,
    fun m g _ => Cert.IdealValue.frame_quiescent m g,
    fun m g _ => Cert.RefValue.frame_quiescent m g,
    fun m g _ => Cert.RefValue.frame_quiescent m g,
    trivial,
    algebraic⟩

end Cert.Proof

end
